-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x512 : Shape := ⟨3, ![8, 512, 512]⟩
abbrev S2048x512 : Shape := ⟨2, ![2048, 512]⟩
abbrev S2048 : Shape := ⟨1, ![2048]⟩
abbrev S1x2048 : Shape := ⟨2, ![1, 2048]⟩
abbrev S8x512 : Shape := ⟨2, ![8, 512]⟩
abbrev S8x128x512 : Shape := ⟨3, ![8, 128, 512]⟩
abbrev S1024x2048 : Shape := ⟨2, ![1024, 2048]⟩
abbrev S512x2048 : Shape := ⟨2, ![512, 2048]⟩
abbrev S128x8x512 : Shape := ⟨3, ![128, 8, 512]⟩
abbrev S1024x512 : Shape := ⟨2, ![1024, 512]⟩
abbrev S8x2048 : Shape := ⟨2, ![8, 2048]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S8x512x512, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S8x512, .f32⟩
  | .local _ .vmem, ⟨0, _⟩ => ⟨S8x128x512, .f32⟩
  | .local _ .vmem, ⟨1, _⟩ => ⟨S8x128x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S8x512, .f32⟩
  | .local _ .vmem, ⟨6, _⟩ => ⟨S1024x2048, .f32⟩
  | .local _ .vmem, ⟨7, _⟩ => ⟨S8x512, .f32⟩
  | .local _ .vmem, ⟨8, _⟩ => ⟨S8x512, .f32⟩
  | .local _ .vmem, ⟨9, _⟩ => ⟨S512x2048, .bf16⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_15 : BitVec 32 := 0#32
  let c8_i32 : BitVec 32 := 8#32
  let v18 : BitVec 32 := Scalar.addi c0_i32_15 c8_i32
  let c1_i32 : BitVec 32 := 1#32
  ⟨c0_i32_15, v18, c1_i32⟩
def k0_off1 (k0_t1 : Fin k0_t1_loop.trips) (c0_i32_22 : BitVec 32) : Fin 2 → Nat :=
  let c0_i32_15 : BitVec 32 := 0#32
  let c1_i32 : BitVec 32 := 1#32
  let arg10 : BitVec 32 := Scf.iv c0_i32_15 c1_i32 k0_t1
  let c16_i32 : BitVec 32 := 16#32
  let v29 : BitVec 32 := Scalar.muli arg10 c16_i32
  let v30 : BitVec 32 := Scalar.addi v29 c0_i32_22
  let c8_i32_23 : BitVec 32 := 8#32
  let v32 : BitVec 32 := Scalar.muli v30 c8_i32_23
  let v33 : Index := Scalar.indexCast v32
  let c0_24 : Index := 0#32
  ![v33.toNat, 0]
def k0_cond2 (i : grid0.Coords) : BitVec 1 :=
  let arg0 : BitVec 32 := BitVec.ofNat 32 (i 0).val
  let c3_i32 : BitVec 32 := 3#32
  let v26 : BitVec 1 := Scalar.cmpi .eq arg0 c3_i32
  let v27 : BitVec 32 := Scalar.extui v26
  let c0_i32_21 : BitVec 32 := 0#32
  let v28 : BitVec 1 := Scalar.cmpi .ne v27 c0_i32_21
  v28

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x512x512 : Shape := ⟨3, ![8, 512, 512]⟩
abbrev S2048x512 : Shape := ⟨2, ![2048, 512]⟩
abbrev S2048 : Shape := ⟨1, ![2048]⟩
abbrev S_ : Shape := ⟨0, ![]⟩
abbrev S8x512 : Shape := ⟨2, ![8, 512]⟩
abbrev S512x8x512 : Shape := ⟨3, ![512, 8, 512]⟩
abbrev S1x8x512 : Shape := ⟨3, ![1, 8, 512]⟩
abbrev S512x2048 : Shape := ⟨2, ![512, 2048]⟩
abbrev S8x2048 : Shape := ⟨2, ![8, 2048]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S512x8x512, .f32⟩
  | .hbm, ⟨10, _⟩ => ⟨S_, .i32⟩
  | .hbm, ⟨11, _⟩ => ⟨S512x8x512, .f32⟩
  | .hbm, ⟨12, _⟩ => ⟨S2048x512, .f32⟩
  | .hbm, ⟨13, _⟩ => ⟨S2048, .f32⟩
  | .hbm, ⟨14, _⟩ => ⟨S2048x512, .f32⟩
  | .hbm, ⟨15, _⟩ => ⟨S2048, .f32⟩
  | .hbm, ⟨16, _⟩ => ⟨S_, .i32⟩
  | .hbm, ⟨17, _⟩ => ⟨S8x512, .f32⟩
  | .hbm, ⟨18, _⟩ => ⟨S8x512, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S1x8x512, .f32⟩
  | .hbm, ⟨24, _⟩ => ⟨S8x512, .f32⟩
  | .hbm, ⟨25, _⟩ => ⟨S512x2048, .f32⟩
  | .hbm, ⟨26, _⟩ => ⟨S8x2048, .f32⟩
  | .hbm, ⟨27, _⟩ => ⟨S1x2048, .f32⟩
  | .hbm, ⟨28, _⟩ => ⟨S8x2048, .f32⟩
  | .hbm, ⟨29, _⟩ => ⟨S8x2048, .f32⟩
  | .hbm, ⟨30, _⟩ => ⟨S512x2048, .f32⟩
  | .hbm, ⟨31, _⟩ => ⟨S8x2048, .f32⟩
  | .hbm, ⟨32, _⟩ => ⟨S8x2048, .f32⟩
  | .hbm, ⟨33, _⟩ => ⟨S1x2048, .f32⟩
  | .hbm, ⟨34, _⟩ => ⟨S8x2048, .f32⟩
  | .hbm, ⟨35, _⟩ => ⟨S8x2048, .f32⟩
  | .hbm, ⟨36, _⟩ => ⟨S8x512, .f32⟩
  | .hbm, ⟨37, _⟩ => ⟨S8x512, .f32⟩
  | .hbm, ⟨38, _⟩ => ⟨S8x512, .f32⟩
  | .hbm, ⟨39, _⟩ => ⟨S8x512, .f32⟩
  | .hbm, ⟨40, _⟩ => ⟨S8x512, .f32⟩
  | .hbm, ⟨41, _⟩ => ⟨S8x512, .f32⟩
  | .hbm, ⟨42, _⟩ => ⟨S_, .f32⟩
  | .hbm, ⟨43, _⟩ => ⟨S8x512, .f32⟩
  | .hbm, ⟨44, _⟩ => ⟨S8x512, .f32⟩
  | .hbm, ⟨45, _⟩ => ⟨S_, .f32⟩
  | .hbm, ⟨46, _⟩ => ⟨S8x512, .f32⟩
  | .hbm, ⟨47, _⟩ => ⟨S8x512, .f32⟩
  | .hbm, ⟨48, _⟩ => ⟨S8x512, .f32⟩
  | .hbm, ⟨49, _⟩ => ⟨S8x512, .f32⟩
  | .hbm, ⟨50, _⟩ => ⟨S_, .f32⟩
  | .hbm, ⟨51, _⟩ => ⟨S8x512, .f32⟩
  | .hbm, ⟨52, _⟩ => ⟨S8x512, .f32⟩
  | .hbm, ⟨53, _⟩ => ⟨S_, .f32⟩
  | .hbm, ⟨54, _⟩ => ⟨S8x512, .f32⟩
  | .hbm, ⟨55, _⟩ => ⟨S8x512, .f32⟩
  | .hbm, ⟨56, _⟩ => ⟨S8x512, .f32⟩
  | .hbm, ⟨57, _⟩ => ⟨S8x512, .f32⟩
  | .hbm, ⟨58, _⟩ => ⟨S8x512, .f32⟩
  | .hbm, ⟨59, _⟩ => ⟨S_, .f32⟩
  | .hbm, ⟨60, _⟩ => ⟨S8x512, .f32⟩
  | .hbm, ⟨61, _⟩ => ⟨S8x512, .f32⟩
  | .hbm, ⟨62, _⟩ => ⟨S_, .f32⟩
  | .hbm, ⟨63, _⟩ => ⟨S8x512, .f32⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S8x512, .f32⟩
  | .hbm, ⟨68, _⟩ => ⟨S8x512, .f32⟩
  | .hbm, ⟨69, _⟩ => ⟨S8x512, .f32⟩
  | .hbm, ⟨70, _⟩ => ⟨S_, .i32⟩
  | .hbm, ⟨71, _⟩ => ⟨S_, .i32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_while0c_c_8 : Ref sig .tc := ⟨.hbm, 19, rfl⟩
abbrev main_while0c_v4 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_v5 : Ref sig .tc := ⟨.hbm, 25, rfl⟩
abbrev main_while0b_v6 : Ref sig .tc := ⟨.hbm, 26, rfl⟩
abbrev main_while0b_v7 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_cst_8 : Ref sig .tc := ⟨.hbm, 42, rfl⟩
abbrev main_while0b_v22 : Ref sig .tc := ⟨.hbm, 43, rfl⟩
abbrev main_while0b_v23 : Ref sig .tc := ⟨.hbm, 44, rfl⟩
abbrev main_while0b_cst_9 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_v27 : Ref sig .tc := ⟨.hbm, 49, rfl⟩
abbrev main_while0b_cst_10 : Ref sig .tc := ⟨.hbm, 50, rfl⟩
abbrev main_while0b_v28 : Ref sig .tc := ⟨.hbm, 51, rfl⟩
abbrev main_while0b_v29 : Ref sig .tc := ⟨.hbm, 52, rfl⟩
abbrev main_while0b_cst_11 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_cst_12 : Ref sig .tc := ⟨.hbm, 59, rfl⟩
abbrev main_while0b_v35 : Ref sig .tc := ⟨.hbm, 60, rfl⟩
abbrev main_while0b_v36 : Ref sig .tc := ⟨.hbm, 61, rfl⟩
abbrev main_while0b_cst_13 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_c_14 : Ref sig .tc := ⟨.hbm, 70, rfl⟩
abbrev main_while0b_v44 : Ref sig .tc := ⟨.hbm, 71, rfl⟩

abbrev nD : Nat := 1
abbrev τ : Topo := Topo.v7x

variable {F : FTy → Type} [FloatOps F]

abbrev main_while0_count : Scf.Loop 32 := ⟨0#32, 512#32, 1#32⟩
-- ==== Proof.Step.lean ====
/- One step of the recurrence as the kernel's body computes it, and one trip of the body's loop as sixteen such steps. -/
module

public import proofs.«01_k».proof.Proof.Gen.KernelIdeal.Loops
public import Idealize.ShloMosaic.Lib.Tactic
public import Idealize.ShloMosaic.Lib.Pointwise
public import Idealize.ShloMosaic.Lib.Pipeline.Value
public import Idealize.ShloMosaic.Lib.Pipeline.ValueKit.Tiles

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The carried pair of the recurrence: the hidden state and the cell state. -/
abbrev St (F : FTy → Type) : Type := Vec F S8x512 .f32 × Vec F S8x512 .f32

/-- The column block at `o` of the gates' pre-activation: the input's share `x` plus the rounded hidden state times the
    weights' column block. -/
def gate (o : Fin 2 → ℕ) (hx : S8x2048.Slices o S8x512) (hw : S512x2048.Slices o S512x512)
    (w : Vec F S512x2048 .bf16) (x : Vec F S8x2048 .f32) (h : Vec F S8x512 .f32) : FVec F S8x512 .f32 :=
  addf (extractStridedSlice S8x512 o x hx)
    (matmul dot_S8x512_S512x512_S8x512_1_0_0_1_n_n none (truncf .bf16 h bitsLt_bf16_f32)
      (extractStridedSlice S512x512 o w hw) (constant S8x512 .f32 0x00000000#32))

/-- The next cell state. -/
def newC (w : Vec F S512x2048 .bf16) (x : Vec F S8x2048 .f32) (s : St F) : FVec F S8x512 .f32 :=
  addf
    (mulf (logistic (gate ![0, 512] slices_S8x2048_o0_512_S8x512 slices_S512x2048_o0_512_S512x512 w x s.1)) s.2)
    (mulf (logistic (gate ![0, 0] slices_S8x2048_o0_0_S8x512 slices_S512x2048_o0_0_S512x512 w x s.1))
      (tanh (gate ![0, 1024] slices_S8x2048_o0_1024_S8x512 slices_S512x2048_o0_1024_S512x512 w x s.1)))

/-- The next hidden state. -/
def newH (w : Vec F S512x2048 .bf16) (x : Vec F S8x2048 .f32) (s : St F) : FVec F S8x512 .f32 :=
  mulf (logistic (gate ![0, 1536] slices_S8x2048_o0_1536_S8x512 slices_S512x2048_o0_1536_S512x512 w x s.1))
    (tanh (newC w x s))

/-- One step of the recurrence on the carried pair. -/
def cell (w : Vec F S512x2048 .bf16) (x : Vec F S8x2048 .f32) (s : St F) : St F := (newH w x s, newC w x s)

/-- The eight rows of the scratch that step `j` of trip `k` reads. -/
def chunkRows (arg6 : Memref sig .tc .vmem S1024x2048 .f32) (X : BufTy.Contents (Elt F) arg6.view.ty)
    (k : Fin k0_t1_loop.trips) (j : Fin 16) : Vec F S8x2048 .f32 :=
  View.readAt (Elt F) arg6.view
    (Rect.unit (s := S1024x2048) (k0_off1 k (BitVec.ofNat 32 j.val)) S8x2048.size (k0_off1_inb k j)).toLoadRect X

set_option maxRecDepth 65536 in
/-- One trip of the body's loop is sixteen steps, over the trip's sixteen groups of eight rows. -/
theorem trip_eq (𝒱 : Variants) (c : Dev nD) (bd : Option 𝒱.V) (i : grid0.Coords) (arg1 : Memref sig .tc .vmem S8x128x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S8x512 .f32) (harg5 : arg5.IsWhole) (arg6 : Memref sig .tc .vmem S1024x2048 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x2048 .bf16) (harg9 : arg9.IsWhole)
    (w : Vec F S512x2048 .bf16) (X : BufTy.Contents (Elt F) arg6.view.ty) (k : Fin k0_t1_loop.trips) (acc : St F) :
    tripR_k0_t1 (F := F) 𝒱 c bd i arg1 harg1 arg2 harg2 arg3 harg3 arg4 harg4 arg5 harg5 arg6 harg6 arg7 harg7 arg8 harg8 arg9 harg9 w X k acc
      = (cell w (chunkRows arg6 X k 15) (cell w (chunkRows arg6 X k 14) (cell w (chunkRows arg6 X k 13) (cell w (chunkRows arg6 X k 12) (cell w (chunkRows arg6 X k 11) (cell w (chunkRows arg6 X k 10) (cell w (chunkRows arg6 X k 9) (cell w (chunkRows arg6 X k 8) (cell w (chunkRows arg6 X k 7) (cell w (chunkRows arg6 X k 6) (cell w (chunkRows arg6 X k 5) (cell w (chunkRows arg6 X k 4) (cell w (chunkRows arg6 X k 3) (cell w (chunkRows arg6 X k 2) (cell w (chunkRows arg6 X k 1) (cell w (chunkRows arg6 X k 0) acc)))))))))))))))) := by
  unfold tripR_k0_t1 trip_k0_t1
  rfl

/-- Group `t` of eight consecutive rows of the input's share. -/
def rowsOf (G : Vec F S1024x2048 .f32) (t : ℕ) : Vec F S8x2048 .f32 := fun i =>
  G (ix2 (⟨(8 * t + (i 0).val) % 1024, Nat.mod_lt _ (by decide)⟩ : Fin 1024) (i 1 : Fin 2048))

/-- `n` steps from `s`, step `t` over the rows `x t`. -/
def steps (w : Vec F S512x2048 .bf16) (x : ℕ → Vec F S8x2048 .f32) (s : St F) : ℕ → St F
  | 0 => s
  | n + 1 => cell w (x n) (steps w x s n)

/-- Steps compose: `a + b` steps are `a` steps and then `b` more over the later rows. -/
theorem steps_add (w : Vec F S512x2048 .bf16) (x : ℕ → Vec F S8x2048 .f32) (s : St F) (a b : ℕ) :
    steps w x s (a + b) = steps w (fun t => x (a + t)) (steps w x s a) b := by
  induction b with
  | zero => rfl
  | succ b ih => exact congrArg (cell w (x (a + b))) ih

/-- Steps depend on the rows they use only. -/
theorem steps_congr (w : Vec F S512x2048 .bf16) (x y : ℕ → Vec F S8x2048 .f32) (s : St F) (n : ℕ)
    (h : ∀ t < n, x t = y t) : steps w x s n = steps w y s n := by
  induction n with
  | zero => rfl
  | succ n ih =>
    show cell w (x n) (steps w x s n) = cell w (y n) (steps w y s n)
    rw [h n (Nat.lt_succ_self n), ih fun t ht => h t (Nat.lt_succ_of_lt ht)]

/-- Step `j` of trip `k` starts at row `8 (16 k + j)`. -/
theorem chunk_off : ∀ (k : Fin k0_t1_loop.trips) (j : Fin 16),
    k0_off1 k (BitVec.ofNat 32 j.val) 0 = 8 * (16 * k.val + j.val) := by decide +kernel

/-- The rows step `j` of trip `k` reads are group `16 k + j` of the scratch's contents. -/
theorem chunkRows_eq (arg6 : Memref sig .tc .vmem S1024x2048 .f32) (X : BufTy.Contents (Elt F) arg6.view.ty)
    (k : Fin k0_t1_loop.trips) (j : Fin 16) :
    chunkRows arg6 X k j = rowsOf (arg6.view.read (Elt F) X) (16 * k.val + j.val) := by
  have hk : k.val < 8 := Nat.lt_of_lt_of_le k.isLt k0_t1_abs.2.1
  have hj := j.isLt
  unfold chunkRows
  rw [View.readAt_eq_ld]
  funext i
  have hi : (i 0).val < 8 := (i 0).isLt
  refine View.ld_unit_apply_of (S := S1024x2048) _ _ _ _ i _ fun a => ?_
  match a with
  | ⟨0, _⟩ =>
    show (8 * (16 * k.val + j.val) + (i 0).val) % 1024 = k0_off1 k (BitVec.ofNat 32 j.val) 0 + (i 0).val
    rw [chunk_off]
    omega
  | ⟨1, _⟩ => exact (Nat.zero_add _).symm

/-- Before trip `k` the loop carries what `16 k` steps make of its initial pair. -/
theorem loop_eq (𝒱 : Variants) (c : Dev nD) (bd : Option 𝒱.V) (i : grid0.Coords) (arg1 : Memref sig .tc .vmem S8x128x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S8x512 .f32) (harg5 : arg5.IsWhole) (arg6 : Memref sig .tc .vmem S1024x2048 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x2048 .bf16) (harg9 : arg9.IsWhole) (w : Vec F S512x2048 .bf16) (X : BufTy.Contents (Elt F) arg6.view.ty) (init : St F) (k : ℕ)
    (hk : k ≤ k0_t1_loop.trips) :
    st_k0_t1 (F := F) 𝒱 c bd i arg1 harg1 arg2 harg2 arg3 harg3 arg4 harg4 arg5 harg5 arg6 harg6 arg7 harg7 arg8 harg8 arg9 harg9 w X init k
      = steps w (rowsOf (arg6.view.read (Elt F) X)) init (16 * k) := by
  induction k with
  | zero => rfl
  | succ k ih =>
    have hlt : k < k0_t1_loop.trips := hk
    rw [show k + 1 = (⟨k, hlt⟩ : Fin k0_t1_loop.trips).val + 1 from rfl, st_k0_t1_succ, trip_eq,
      ih (Nat.le_of_lt hlt)]
    simp only [chunkRows_eq]
    rfl

end Cert.KernelIdeal.Value

end
-- ==== Proof.Point.lean ====
/- What one grid point leaves in the three carried scratch arrays, and what the last one leaves in the result block. -/
module

public import proofs.«01_k».proof.Proof.Step
public import proofs.«01_k».proof.Proof.Gen.KernelIdeal.Value
public import Idealize.ShloMosaic.Lib.Pipeline.ValueKit.Acc

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- What a grid point makes of the carried pair `s`: 128 steps over the rows of the input's share, which the point
    computes from its block `x`, the input weights `wi` and the bias row `b`. -/
def point (x : Vec F S8x128x512 .f32) (wi : Vec F S2048x512 .f32) (b : Vec F S1x2048 .f32) (w : Vec F S512x2048 .bf16)
    (s : St F) : St F :=
  steps w (rowsOf (k0_pay53 x wi b)) s 128

/-- The hidden state is stored as it is: the cast before the store keeps the shape. -/
theorem pay56_eq (v : Vec F S8x512 .f32) : k0_pay56 v = v := by
  unfold k0_pay56
  exact shapeCast_self _ _

/-- The cell state is stored as it is. -/
theorem pay57_eq (v : Vec F S8x512 .f32) : k0_pay57 v = v := by
  unfold k0_pay57
  exact shapeCast_self _ _

section Cases

variable (c : Dev nD) (i : grid0.Coords)
  (arg1 : Memref sig .tc .vmem S8x128x512 .f32) (harg1 : arg1.IsWhole)
  (arg2 : Memref sig .tc .vmem S2048x512 .f32) (harg2 : arg2.IsWhole)
  (arg3 : Memref sig .tc .vmem S2048x512 .f32) (harg3 : arg3.IsWhole)
  (arg4 : Memref sig .tc .vmem S1x2048 .f32) (harg4 : arg4.IsWhole)
  (arg5 : Memref sig .tc .vmem S8x512 .f32) (harg5 : arg5.IsWhole)
  (arg6 : Memref sig .tc .vmem S1024x2048 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S512x2048 .bf16) (harg9 : arg9.IsWhole)

/-- The whole loop, over the scratch as the body has just filled it with `g`. -/
theorem loop_whole (w : Vec F S512x2048 .bf16) (g : Vec F S1024x2048 .f32) (init : St F)
    (inb : ∀ a, (![0, 0] : Fin 2 → ℕ) a + S1024x2048.size a ≤ S1024x2048.size a) :
    st_k0_t1 (F := F) Variants.none c none
        i arg1 harg1 arg2 harg2 arg3 harg3 arg4 harg4 arg5 harg5 arg6 harg6 arg7 harg7 arg8 harg8 arg9 harg9 w
        (arg6.view.writes (Elt F) arg6.view.junk [⟨Rect.unit ![0, 0] S1024x2048.size inb, g⟩]) init
        k0_t1_loop.trips
      = steps w (rowsOf g) init 128 := by
  rw [loop_eq (hk := le_rfl), View.read_writes_eq_canon _ _ _ fun y => ⟨_, List.mem_singleton_self _, by
    rw [Rect.mem_set_unit]
    exact fun a => ⟨by fin_cases a <;> exact Nat.zero_le _, by fin_cases a <;> exact lt_of_lt_of_eq (y _).isLt (Nat.zero_add _).symm⟩⟩,
    View.canon_cons_unit_lit' _ _ _ (by decide)]
  rfl

/-- The first point leaves, in the hidden state's scratch, the hidden state 128 steps after the zero pair. -/
theorem sout_A_1 (hc0 : cond0_0 i) (hc1 : ¬cond0_1 i) (x0 : Vec F S8x128x512 .f32)
    (x1 x2 : Vec F S2048x512 .f32) (x3 : Vec F S1x2048 .f32) :
    sout0_A_1 (F := F)
      c i arg1 harg1 arg2 harg2 arg3 harg3 arg4 harg4 arg5 harg5 arg6 harg6 arg7 harg7 arg8 harg8 arg9 harg9
      hc0 hc1 x0 x1 x2 x3 = (point x0 x1 x3 (k0_pay52 x2) (k0_pay50, k0_pay51)).1 := by
  unfold sout0_A_1
  rw [View.read_writes_eq_canon _ _ _ fun _ => scover0_A_1 (hc0 := hc0) (hc1 := hc1) ..]
  unfold kernelRun0_A
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]
  exact (pay56_eq _).trans (congrArg (Prod.fst) (loop_whole c i arg1 harg1 arg2 harg2 arg3 harg3 arg4 harg4 arg5
    harg5 arg6 harg6 arg7 harg7 arg8 harg8 arg9 harg9 _ _ _ _))

/-- The first point leaves, in the cell state's scratch, the cell state 128 steps after the zero pair. -/
theorem sout_A_2 (hc0 : cond0_0 i) (hc1 : ¬cond0_1 i) (x0 : Vec F S8x128x512 .f32)
    (x1 x2 : Vec F S2048x512 .f32) (x3 : Vec F S1x2048 .f32) :
    sout0_A_2 (F := F)
      c i arg1 harg1 arg2 harg2 arg3 harg3 arg4 harg4 arg5 harg5 arg6 harg6 arg7 harg7 arg8 harg8 arg9 harg9
      hc0 hc1 x0 x1 x2 x3 = (point x0 x1 x3 (k0_pay52 x2) (k0_pay50, k0_pay51)).2 := by
  unfold sout0_A_2
  rw [View.read_writes_eq_canon _ _ _ fun _ => scover0_A_2 (hc0 := hc0) (hc1 := hc1) ..]
  unfold kernelRun0_A
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]
  exact (pay57_eq _).trans (congrArg (Prod.snd) (loop_whole c i arg1 harg1 arg2 harg2 arg3 harg3 arg4 harg4 arg5
    harg5 arg6 harg6 arg7 harg7 arg8 harg8 arg9 harg9 _ _ _ _))

/-- The first point leaves the recurrent weights, transposed and narrowed, in their scratch. -/
theorem sout_A_3 (hc0 : cond0_0 i) (hc1 : ¬cond0_1 i) (x0 : Vec F S8x128x512 .f32)
    (x1 x2 : Vec F S2048x512 .f32) (x3 : Vec F S1x2048 .f32) :
    sout0_A_3 (F := F)
      c i arg1 harg1 arg2 harg2 arg3 harg3 arg4 harg4 arg5 harg5 arg6 harg6 arg7 harg7 arg8 harg8 arg9 harg9
      hc0 hc1 x0 x1 x2 x3 = k0_pay52 x2 := by
  unfold sout0_A_3
  rw [View.read_writes_eq_canon _ _ _ fun _ => scover0_A_3 (hc0 := hc0) (hc1 := hc1) ..]
  unfold kernelRun0_A
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]

/-- A middle point leaves the hidden state 128 steps after the pair it found. -/
theorem sout_B_1 (hc0 : ¬cond0_0 i) (hc1 : ¬cond0_1 i) (x0 : Vec F S8x128x512 .f32)
    (x1 x2 : Vec F S2048x512 .f32) (x3 : Vec F S1x2048 .f32)
    (h cs : Vec F S8x512 .f32) (w : Vec F S512x2048 .bf16) :
    sout0_B_1 (F := F)
      c i arg1 harg1 arg2 harg2 arg3 harg3 arg4 harg4 arg5 harg5 arg6 harg6 arg7 harg7 arg8 harg8 arg9 harg9
      hc0 hc1 x0 x1 x2 x3 h cs w = (point x0 x1 x3 w (h, cs)).1 := by
  unfold sout0_B_1
  rw [View.read_writes_eq_canon _ _ _ fun _ => scover0_B_1 (hc0 := hc0) (hc1 := hc1) ..]
  unfold kernelRun0_B
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]
  exact (pay56_eq _).trans (congrArg (Prod.fst) (loop_whole c i arg1 harg1 arg2 harg2 arg3 harg3 arg4 harg4 arg5
    harg5 arg6 harg6 arg7 harg7 arg8 harg8 arg9 harg9 _ _ _ _))

/-- A middle point leaves the cell state 128 steps after the pair it found. -/
theorem sout_B_2 (hc0 : ¬cond0_0 i) (hc1 : ¬cond0_1 i) (x0 : Vec F S8x128x512 .f32)
    (x1 x2 : Vec F S2048x512 .f32) (x3 : Vec F S1x2048 .f32)
    (h cs : Vec F S8x512 .f32) (w : Vec F S512x2048 .bf16) :
    sout0_B_2 (F := F)
      c i arg1 harg1 arg2 harg2 arg3 harg3 arg4 harg4 arg5 harg5 arg6 harg6 arg7 harg7 arg8 harg8 arg9 harg9
      hc0 hc1 x0 x1 x2 x3 h cs w = (point x0 x1 x3 w (h, cs)).2 := by
  unfold sout0_B_2
  rw [View.read_writes_eq_canon _ _ _ fun _ => scover0_B_2 (hc0 := hc0) (hc1 := hc1) ..]
  unfold kernelRun0_B
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]
  exact (pay57_eq _).trans (congrArg (Prod.snd) (loop_whole c i arg1 harg1 arg2 harg2 arg3 harg3 arg4 harg4 arg5
    harg5 arg6 harg6 arg7 harg7 arg8 harg8 arg9 harg9 _ _ _ _))

/-- The last point leaves, in the result block, the hidden state 128 steps after the pair it found. -/
theorem out_C_4 (hc0 : ¬cond0_0 i) (hc1 : cond0_1 i) (x0 : Vec F S8x128x512 .f32)
    (x1 x2 : Vec F S2048x512 .f32) (x3 : Vec F S1x2048 .f32)
    (h cs : Vec F S8x512 .f32) (w : Vec F S512x2048 .bf16) :
    out0_C_4 (F := F)
      c i arg1 harg1 arg2 harg2 arg3 harg3 arg4 harg4 arg5 harg5 arg6 harg6 arg7 harg7 arg8 harg8 arg9 harg9
      hc0 hc1 x0 x1 x2 x3 h cs w = (point x0 x1 x3 w (h, cs)).1 := by
  unfold out0_C_4
  rw [View.read_writes_eq_canon _ _ _ fun _ => cover0_C_4 (hc0 := hc0) (hc1 := hc1) ..]
  unfold kernelRun0_C
  dsimp only
  sl_unfold_words
  simp (disch := decide) only [View.canon_cons_unit_lit', View.readCov_unit_lit', View.readAt_eq_ld, View.ld_unit_lit',
    harg1.read_unread, harg2.read_unread, harg3.read_unread, harg4.read_unread, harg7.read_unread, harg8.read_unread,
    harg9.read_unread]
  exact congrArg (Prod.fst) (loop_whole c i arg1 harg1 arg2 harg2 arg3 harg3 arg4 harg4 arg5 harg5 arg6 harg6 arg7
    harg7 arg8 harg8 arg9 harg9 _ _ _ _)

end Cases

end Cert.KernelIdeal.Value

end
-- ==== Proof.Blocks.lean ====
/- What the kernel's four input blocks are, read off the arguments, and what its four grid points leave together: the
   carried scratch joins their steps into one recurrence of 512. -/
module

public import proofs.«01_k».proof.Proof.Point
public import Idealize.ShloMosaic.Lib.Claim
public import Idealize.ShloMosaic.Lib.Pointwise

@[expose] public section

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Where the windows' blocks lie: the first window's block moves along the time axis, the others stay. -/
theorem block_at : ∀ t : Fin cfg0.N,
    (win0_0.index t 0 = 0 ∧ win0_0.index t 1 = t.val ∧ win0_0.index t 2 = 0)
      ∧ (∀ a, win0_1.index t a = 0) ∧ (∀ a, win0_2.index t a = 0) ∧ ∀ a, win0_3.index t a = 0 := by
  decide +kernel

/-- The first window's block at point `t` is the stretch of 128 time steps of the sequences from `128 t` on. -/
theorem block0_apply (c : Dev nD) (t : Fin cfg0.N) (b : Fin 8) (r : Fin 128) (d : Fin 512) (q : Fin 512)
    (hq : q.val = 128 * t.val + r.val) :
    iblk m c 0 t (ix3 b r d) = m ((c : Thread nD τ).loc main_arg0) (ix3 b q d) := by
  obtain ⟨⟨h0, h1, h2⟩, -⟩ := block_at t
  unfold iblk
  rw [View.read_apply]
  show V m c main_arg0 _ = _
  rw [V_main_arg0]
  congr 1
  funext a
  apply Fin.ext
  match a with
  | ⟨0, _⟩ => show win0_0.index t 0 * 8 + 1 * b.val = b.val; rw [h0]; omega
  | ⟨1, _⟩ => show win0_0.index t 1 * 128 + 1 * r.val = q.val; rw [h1, hq]; omega
  | ⟨2, _⟩ => show win0_0.index t 2 * 512 + 1 * d.val = d.val; rw [h2]; omega

/-- The second window's block is the input weights. -/
theorem block1_eq (c : Dev nD) (t : Fin cfg0.N) : iblk m c 1 t = m ((c : Thread nD τ).loc main_arg1) := by
  obtain ⟨-, h, -⟩ := block_at t
  funext j
  unfold iblk
  rw [View.read_apply]
  show V m c main_arg1 _ = _
  rw [V_main_arg1]
  congr 1
  funext a
  apply Fin.ext
  show win0_1.index t a * S2048x512.size a + 1 * (j a).val = (j a).val
  rw [h a]
  omega

/-- The third window's block is the recurrent weights. -/
theorem block2_eq (c : Dev nD) (t : Fin cfg0.N) : iblk m c 2 t = m ((c : Thread nD τ).loc main_arg2) := by
  obtain ⟨-, -, h, -⟩ := block_at t
  funext j
  unfold iblk
  rw [View.read_apply]
  show V m c main_arg2 _ = _
  rw [V_main_arg2]
  congr 1
  funext a
  apply Fin.ext
  show win0_2.index t a * S2048x512.size a + 1 * (j a).val = (j a).val
  rw [h a]
  omega

/-- The fourth window's block is the sum of the two biases, as one row. -/
theorem block3_eq (c : Dev nD) (t : Fin cfg0.N) :
    iblk m c 3 t = shapeCast S1x2048
      (addf (m ((c : Thread nD τ).loc main_arg3)) (m ((c : Thread nD τ).loc main_arg4)) : FVec F S2048 .f32)
      shapeCasts_S2048_S1x2048 := by
  obtain ⟨-, -, -, h⟩ := block_at t
  have hV : V m c main_v1 = shapeCast S1x2048
      (addf (m ((c : Thread nD τ).loc main_arg3)) (m ((c : Thread nD τ).loc main_arg4)) : FVec F S2048 .f32)
      shapeCasts_S2048_S1x2048 := by
    entry_read
    rfl
  rw [← hV]
  funext j
  unfold iblk
  rw [View.read_apply]
  show V m c main_v1 _ = _
  congr 1
  funext a
  apply Fin.ext
  show win0_3.index t a * S1x2048.size a + 1 * (j a).val = (j a).val
  rw [h a]
  omega

/-- The kernel's narrowed and transposed recurrent weights. -/
abbrev weights (c : Dev nD) : Vec F S512x2048 .bf16 := k0_pay52 (m ((c : Thread nD τ).loc main_arg2))

/-- The bias row. -/
abbrev biasRow (c : Dev nD) : Vec F S1x2048 .f32 := shapeCast S1x2048
  (addf (m ((c : Thread nD τ).loc main_arg3)) (m ((c : Thread nD τ).loc main_arg4)) : FVec F S2048 .f32)
  shapeCasts_S2048_S1x2048

/-- Grid point `t mod 4`. -/
def pt (t : ℕ) : Fin cfg0.N := ⟨t % 4, lt_of_lt_of_eq (Nat.mod_lt _ (by decide)) N_0.symm⟩

/-- The rows of the input's share at time `t`: group `t mod 128` of what point `t / 128` computes. -/
def rowsAt (c : Dev nD) (t : ℕ) : Vec F S8x2048 .f32 :=
  rowsOf (k0_pay53 (iblk m c 0 (pt (t / 128))) (m ((c : Thread nD τ).loc main_arg1)) (biasRow m c)) (t % 128)

/-- The pair the recurrence starts from. -/
abbrev start : St F := (k0_pay50, k0_pay51)

/-- The pair after the first `n` steps. -/
def after (c : Dev nD) (n : ℕ) : St F := steps (weights m c) (rowsAt m c) start n

/-- Point `n` takes the pair after `128 n` steps to the pair after `128 (n + 1)` steps. -/
theorem point_after (c : Dev nD) (n : ℕ) (hn : n < 4) (t : Fin cfg0.N) (ht : t.val = n) :
    point (iblk m c 0 t) (m ((c : Thread nD τ).loc main_arg1)) (biasRow m c) (weights m c) (after m c (128 * n))
      = after m c (128 * (n + 1)) := by
  unfold after point
  rw [Nat.mul_add, Nat.mul_one, steps_add]
  refine steps_congr _ _ _ _ _ fun k hk => ?_
  unfold rowsAt
  rw [show (128 * n + k) / 128 = n by omega, show (128 * n + k) % 128 = k by omega,
    show pt n = t from Fin.ext (by show n % 4 = t.val; omega)]

/-- After point `n`, short of the last, the scratch holds the pair after `128 (n + 1)` steps and the weights. -/
theorem carried (c : Dev nD) : ∀ (n : ℕ) (hn : n < cfg0.N), n < 3 →
    (outsAt0 m c n hn).2 = ((after m c (128 * (n + 1))).1, (after m c (128 * (n + 1))).2, weights m c)
  | 0, hn, _ => by
    rw [outsAt0_A m c ⟨0, hn⟩ rfl (by dsimp only; omega)]
    dsimp only
    rw [sout_A_1, sout_A_2, sout_A_3, block1_eq, block2_eq, block3_eq,
      ← point_after m c 0 (by decide) ⟨0, hn⟩ rfl]
    rfl
  | n + 1, hn, h3 => by
    have ih := carried c n (Nat.lt_of_succ_lt hn) (Nat.lt_of_succ_lt h3)
    rw [outsAt0_B m c ⟨n + 1, hn⟩ (by dsimp only; omega) (by dsimp only; omega)]
    dsimp only
    rw [sout_B_1, sout_B_2, block1_eq, block3_eq]
    unfold sout0_B_3
    simp only [Nat.add_sub_cancel, ih]
    rw [← point_after m c (n + 1) (by omega) ⟨n + 1, hn⟩ rfl]

/-- The last point leaves the hidden state after all 512 steps in the result block. -/
theorem last (c : Dev nD) (hn : 3 < cfg0.N) : (outsAt0 m c 3 hn).1 = (after m c 512).1 := by
  have ih := carried m c 2 (Nat.lt_of_succ_lt hn) (by decide)
  rw [outsAt0_C m c ⟨3, hn⟩ (by dsimp only; omega) rfl]
  dsimp only
  rw [out_C_4, block1_eq, block3_eq]
  simp only [Nat.reduceSub, ih]
  exact congrArg Prod.fst (point_after m c 3 (by decide) ⟨3, hn⟩ rfl)

/-- The kernel's result is the hidden state after all 512 steps. -/
theorem result (c : Dev nD) : G4 m c = (after m c 512).1 := by
  rw [G4_last, ← last m c (lt_of_lt_of_eq (by decide) N_0.symm), outsAt0_sweep]

end Cert.KernelIdeal.Value

end
-- ==== Proof.Lstm.lean ====
/- The recurrence over the extended reals, element by element: what both programs are shown to compute. -/
module

public import Idealize.ShloMosaic.Lib.Pointwise

@[expose] public section

noncomputable section

namespace Cert.Lstm

open Idealize.ShloMosaic

/-- An array of extended reals of `a` rows and `b` columns. -/
abbrev Mat (a b : ℕ) : Type := (⟨2, ![a, b]⟩ : Shape).Idx → EReal

/-- What the recurrence is given: the sequences, the two weight matrices and the two biases. -/
structure Args where
  /-- The sequences, by batch row, time and feature. -/
  x : (⟨3, ![8, 512, 512]⟩ : Shape).Idx → EReal
  /-- The input weights. -/
  wi : Mat 2048 512
  /-- The recurrent weights. -/
  wh : Mat 2048 512
  /-- The input bias. -/
  bi : (⟨1, ![2048]⟩ : Shape).Idx → EReal
  /-- The recurrent bias. -/
  bh : (⟨1, ![2048]⟩ : Shape).Idx → EReal

variable (A : Args)

/-- The pre-activation of gate column `k` of batch row `b` at time `t`, from the hidden state `h`. -/
def pre (t : Fin 512) (h : Mat 8 512) (b : Fin 8) (k : Fin 2048) : EReal :=
  (∑ d : Fin 512, A.x (ix3 b t d) * A.wi (ix2 k d)) + A.bi (ix1 k) + (∑ d : Fin 512, h (ix2 b d) * A.wh (ix2 k d))
    + A.bh (ix1 k)

/-- Column `j` of the gate whose columns start at `q`. -/
def col (q : ℕ) (hq : q + 512 ≤ 2048) (j : Fin 512) : Fin 2048 := ⟨q + j.val, by omega⟩

/-- The next cell state. -/
def nextC (t : Fin 512) (s : Mat 8 512 × Mat 8 512) (b : Fin 8) (j : Fin 512) : EReal :=
  Ideal.logistic (pre A t s.1 b (col 512 (by decide) j)) * s.2 (ix2 b j)
    + Ideal.logistic (pre A t s.1 b (col 0 (by decide) j)) * Ideal.tanh (pre A t s.1 b (col 1024 (by decide) j))

/-- The next hidden state. -/
def nextH (t : Fin 512) (s : Mat 8 512 × Mat 8 512) (b : Fin 8) (j : Fin 512) : EReal :=
  Ideal.logistic (pre A t s.1 b (col 1536 (by decide) j)) * Ideal.tanh (nextC A t s b j)

/-- One step at time `t`: the next hidden state and the next cell state. -/
def next (t : Fin 512) (s : Mat 8 512 × Mat 8 512) : Mat 8 512 × Mat 8 512 :=
  (fun i => nextH A t s (i 0) (i 1), fun i => nextC A t s (i 0) (i 1))

/-- The pair after the first `n` steps, from zero. -/
def pair : ℕ → Mat 8 512 × Mat 8 512
  | 0 => (fun _ => 0, fun _ => 0)
  | n + 1 => next A ⟨n % 512, Nat.mod_lt _ (by decide)⟩ (pair n)

end Cert.Lstm

end
-- ==== Proof.KernelEq.lean ====
/- The kernel's step, over the extended reals, is the recurrence's. -/
module

public import proofs.«01_k».proof.Proof.Blocks
public import proofs.«01_k».proof.Proof.Lstm

@[expose] public section

set_option maxRecDepth 16384

noncomputable section

namespace Cert.KernelIdeal.Value

open Cert.KernelIdeal Cert.KernelIdeal.Gen Idealize.ShloMosaic Idealize.ShloMosaic.TcCoe Idealize.SL.Sem
open Cert.Lstm (Args pre col nextC nextH next pair)

variable (m : (ℓ : Loc nD τ sig) → Buf (Elt Ideal) ℓ)

/-- The recurrence's arguments as the kernel's launch finds them. -/
def args (c : Dev nD) : Args where
  x := m ((c : Thread nD τ).loc main_arg0)
  wi := m ((c : Thread nD τ).loc main_arg1)
  wh := m ((c : Thread nD τ).loc main_arg2)
  bi := m ((c : Thread nD τ).loc main_arg3)
  bh := m ((c : Thread nD τ).loc main_arg4)

/-- The narrowed and transposed recurrent weights at an index. -/
theorem weights_apply (c : Dev nD) (d : Fin 512) (k : Fin 2048) :
    weights m c (ix2 d k) = (args m c).wh (ix2 k d) := by
  pointwise [k0_pay52, weights, args]

/-- The bias row at an index. -/
theorem biasRow_apply (c : Dev nD) (k : Fin 2048) :
    biasRow m c (ix2 0 k) = (args m c).bi (ix1 k) + (args m c).bh (ix1 k) := by
  pointwise [biasRow, args]

/-- What a point's filling of the scratch holds in row `8 r + b`, column `k`. -/
theorem filled_apply (x : Vec Ideal S8x128x512 .f32) (wi : Vec Ideal S2048x512 .f32) (bias : Vec Ideal S1x2048 .f32)
    (r : Fin 128) (b : Fin 8) (k : Fin 2048) (q : Fin 1024) (hq : q.val = 8 * r.val + b.val) :
    k0_pay53 x wi bias (ix2 q k)
      = (∑ d : Fin 512, x (ix3 b r d) * wi (ix2 k d)) + bias (ix2 0 k) := by
  have hb := b.isLt
  have h1 : q.val / 8 = r.val := by omega
  have h2 : q.val % 8 = b.val := by omega
  have e1 : (⟨q.val % 8, Nat.mod_lt _ (by decide)⟩ : Fin 8) = b := Fin.ext h2
  have e2 : (⟨q.val / 8, by omega⟩ : Fin 128) = r := Fin.ext h1
  pointwise [k0_pay53]
  exact congrArg (· + _) (Finset.sum_congr rfl fun d _ => congrArg (x · * _) (congrArg₂ (ix3 · · d) e1 e2))

/-- A gate's pre-activation at an index. -/
theorem gate_apply (q : ℕ) (hq : q + 512 ≤ 2048) (hx : S8x2048.Slices ![0, q] S8x512)
    (hw : S512x2048.Slices ![0, q] S512x512) (w : Vec Ideal S512x2048 .bf16) (x : Vec Ideal S8x2048 .f32)
    (h : Vec Ideal S8x512 .f32) (b : Fin 8) (j : Fin 512) :
    gate ![0, q] hx hw w x h (ix2 b j)
      = x (ix2 b (col q hq j)) + ∑ d : Fin 512, h (ix2 b d) * w (ix2 d (col q hq j)) := by
  pointwise [gate, col]

/-- The row of step `t`, at batch row `b` and column `k`: the projected input with both biases added. -/
theorem rowsAt_apply (c : Dev nD) (t : Fin 512) (b : Fin 8) (k : Fin 2048) :
    rowsAt m c t.val (ix2 b k)
      = (∑ d : Fin 512, (args m c).x (ix3 b t d) * (args m c).wi (ix2 k d))
        + ((args m c).bi (ix1 k) + (args m c).bh (ix1 k)) := by
  have ht := t.isLt
  have hb := b.isLt
  refine (filled_apply _ _ _ ⟨t.val % 128, Nat.mod_lt _ (by decide)⟩ b k _ ?_).trans ?_
  · show (8 * (t.val % 128) + b.val) % 1024 = 8 * (t.val % 128) + b.val
    omega
  · rw [biasRow_apply]
    refine congrArg (· + _) (Finset.sum_congr rfl fun d _ => ?_)
    refine congrArg (· * _) (block0_apply m c (pt (t.val / 128)) b _ d t ?_)
    show t.val = 128 * (t.val / 128 % 4) + t.val % 128
    omega

/-- A gate's pre-activation is the recurrence's: the kernel adds both biases before the recurrent product, and the
order of a sum of extended reals does not matter. -/
theorem gate_pre (c : Dev nD) (t : Fin 512) (q : ℕ) (hq : q + 512 ≤ 2048) (hx : S8x2048.Slices ![0, q] S8x512)
    (hw : S512x2048.Slices ![0, q] S512x512) (h : Vec Ideal S8x512 .f32) (b : Fin 8) (j : Fin 512) :
    gate ![0, q] hx hw (weights m c) (rowsAt m c t.val) h (ix2 b j) = pre (args m c) t h b (col q hq j) := by
  rw [gate_apply q hq, rowsAt_apply]
  simp only [weights_apply]
  unfold pre
  rw [← add_assoc, add_right_comm]

/-- The kernel's next cell state is the recurrence's. -/
theorem newC_apply (c : Dev nD) (t : Fin 512) (s : St Ideal) (b : Fin 8) (j : Fin 512) :
    newC (weights m c) (rowsAt m c t.val) s (ix2 b j) = nextC (args m c) t s b j := by
  unfold nextC
  rw [← gate_pre m c t 0 (by decide) slices_S8x2048_o0_0_S8x512 slices_S512x2048_o0_0_S512x512,
    ← gate_pre m c t 512 (by decide) slices_S8x2048_o0_512_S8x512 slices_S512x2048_o0_512_S512x512,
    ← gate_pre m c t 1024 (by decide) slices_S8x2048_o0_1024_S8x512 slices_S512x2048_o0_1024_S512x512]
  rfl

/-- The kernel's next hidden state is the recurrence's. -/
theorem newH_apply (c : Dev nD) (t : Fin 512) (s : St Ideal) (b : Fin 8) (j : Fin 512) :
    newH (weights m c) (rowsAt m c t.val) s (ix2 b j) = nextH (args m c) t s b j := by
  unfold nextH
  rw [← gate_pre m c t 1536 (by decide) slices_S8x2048_o0_1536_S8x512 slices_S512x2048_o0_1536_S512x512,
    ← newC_apply]
  rfl

/-- The kernel's step is the recurrence's. -/
theorem cell_next (c : Dev nD) (t : Fin 512) (s : St Ideal) :
    cell (weights m c) (rowsAt m c t.val) s = next (args m c) t s := by
  refine Prod.ext ?_ ?_
  · funext i
    idx_vars i
    exact newH_apply m c t s _ _
  · funext i
    idx_vars i
    exact newC_apply m c t s _ _

/-- The kernel starts from zero, as the recurrence does. -/
theorem start_zero : (start : St Ideal) = (fun _ => 0, fun _ => 0) := by
  refine Prod.ext ?_ ?_
  · funext i
    idx_vars i
    pointwise [k0_pay50, start]
  · funext i
    idx_vars i
    pointwise [k0_pay51, start]

/-- The kernel's pair after `n` steps is the recurrence's. -/
theorem after_pair (c : Dev nD) (n : ℕ) (hn : n ≤ 512) : after m c n = pair (args m c) n := by
  induction n with
  | zero => exact start_zero
  | succ n ih =>
    have e : (⟨n % 512, Nat.mod_lt _ (by decide)⟩ : Fin 512) = ⟨n, by omega⟩ := Fin.ext (Nat.mod_eq_of_lt (by omega))
    show cell (weights m c) (rowsAt m c n) (after m c n) = next (args m c) _ (pair (args m c) n)
    rw [ih (by omega), e]
    exact cell_next m c ⟨n, by omega⟩ _

/-- The kernel's result is the recurrence's hidden state after all 512 steps. -/
theorem result_pair (c : Dev nD) : G4 m c = (pair (args m c) 512).1 := by
  rw [result, after_pair m c 512 le_rfl]

end Cert.KernelIdeal.Value

end
-- ==== Proof.ReferenceEq.lean ====
/- The reference's loop, over the extended reals, is the recurrence. -/
module

public import proofs.«01_k».proof.Proof.Gen.ReferenceIdeal.Run
public import proofs.«01_k».proof.Proof.Lstm
public import Idealize.ShloMosaic.Lib.DynamicIndex
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe
open Idealize.ShloMosaic.Tactic Idealize.ShloMosaic.StableHlo
open Cert.Lstm (Args Mat pre col nextC nextH next pair)

/-- The recurrence's arguments as the reference's start finds them. -/
def args (m : (ℓ : Loc nD τ sig) → Buf (Elt Ideal) ℓ) (c : Dev nD) : Args where
  x := m ((c : Thread nD τ).loc main_arg0)
  wi := m ((c : Thread nD τ).loc main_arg1)
  wh := m ((c : Thread nD τ).loc main_arg2)
  bi := m ((c : Thread nD τ).loc main_arg3)
  bh := m ((c : Thread nD τ).loc main_arg4)

/-- What the loop's buffers hold before trip `n`: the arguments, the counter at `n`, and the pair `s`. -/
structure Holds (A : Args) (n : ℕ) (s : Mat 8 512 × Mat 8 512) (V : Valuation τ sig (Elt Ideal)) : Prop where
  /-- The sequences, time first. -/
  x : V (Proc.devRef .tc main_v3_0) = transpose S512x8x512 [1, 0, 2] A.x transposes_S8x512x512_S512x8x512_1_0_2
  /-- The input weights. -/
  wi : V (Proc.devRef .tc main_v3_1) = A.wi
  /-- The input bias. -/
  bi : V (Proc.devRef .tc main_v3_2) = A.bi
  /-- The recurrent weights. -/
  wh : V (Proc.devRef .tc main_v3_3) = A.wh
  /-- The recurrent bias. -/
  bh : V (Proc.devRef .tc main_v3_4) = A.bh
  /-- The counter. -/
  ctr : V (Proc.devRef .tc main_v3_5) = fun _ => BitVec.ofNat 32 n
  /-- The hidden state. -/
  h : V (Proc.devRef .tc main_v3_6) = s.1
  /-- The cell state. -/
  c : V (Proc.devRef .tc main_v3_7) = s.2

/-- One time step of a block fits the sequences, at any time. -/
theorem fits (n : ℕ) (hn : n < 512) : S512x8x512.Slices ![n, 0, 0] S1x8x512 := by
  refine ⟨rfl, fun a => ?_⟩
  fin_cases a
  · show n + 1 ≤ 512
    omega
  · exact Nat.le_refl 8
  · exact Nat.le_refl 512

/-- The row the reference cuts out at counter `n`. -/
theorem row_apply (x : FVec Ideal S8x512x512 .f32) (start : Fin S512x8x512.rank → Int) (n : Fin 512)
    (hs : ∀ a, start a = ((![n.val, 0, 0] : Fin 3 → ℕ) a : Int)) (b : Fin 8) (d : Fin 512) :
    shapeCast S8x512 (Host.dynamicSlice S1x8x512
        (transpose S512x8x512 [1, 0, 2] x transposes_S8x512x512_S512x8x512_1_0_2) start
        sliceFits_S512x8x512_S1x8x512) shapeCasts_S1x8x512_S8x512 (ix2 b d) = x (ix3 b n d) := by
  have e := Host.dynamicSlice_eq_extractStridedSlice S1x8x512
    (transpose S512x8x512 [1, 0, 2] x transposes_S8x512x512_S512x8x512_1_0_2) start ![n.val, 0, 0]
    sliceFits_S512x8x512_S1x8x512 (fits n.val n.isLt) hs
  refine (congrArg (fun v => shapeCast S8x512 v shapeCasts_S1x8x512_S8x512 (ix2 b d)) e).trans ?_
  pointwise

/-- The reference's sum of a row `x`'s projection, the biases and the recurrent product. -/
abbrev sums (x h : FVec Ideal S8x512 .f32) (wi wh : FVec Ideal S2048x512 .f32) (bi bh : FVec Ideal S2048 .f32) :
    FVec Ideal S8x2048 .f32 :=
  addf (addf (addf
    (Host.dotGeneral dot_S8x512_S512x2048_S8x2048_1_0_0_1_n_n none x
      (transpose S512x2048 [1, 0] wi transposes_S2048x512_S512x2048_1_0))
    (broadcastInDim S8x2048 ![0, 1] bcast_S1x2048_S8x2048_0_1 (broadcastInDim S1x2048 ![1] bcast_S2048_S1x2048_1 bi)))
    (Host.dotGeneral dot_S8x512_S512x2048_S8x2048_1_0_0_1_n_n none h
      (transpose S512x2048 [1, 0] wh transposes_S2048x512_S512x2048_1_0)))
    (broadcastInDim S8x2048 ![0, 1] bcast_S1x2048_S8x2048_0_1 (broadcastInDim S1x2048 ![1] bcast_S2048_S1x2048_1 bh))

/-- The sum at an index. -/
theorem sums_apply (x h : FVec Ideal S8x512 .f32) (wi wh : FVec Ideal S2048x512 .f32) (bi bh : FVec Ideal S2048 .f32)
    (b : Fin 8) (k : Fin 2048) :
    sums x h wi wh bi bh (ix2 b k)
      = (∑ d : Fin 512, x (ix2 b d) * wi (ix2 k d)) + bi (ix1 k) + (∑ d : Fin 512, h (ix2 b d) * wh (ix2 k d))
        + bh (ix1 k) := by
  pointwise [sums]

/-- The reference's sigmoid, written with its constant one. -/
abbrev sigmoid (v : FVec Ideal S8x512 .f32) : FVec Ideal S8x512 .f32 :=
  Host.divf (broadcastInDim S8x512 ![] bcast_S_S8x512 (constant S_ .f32 0x3F800000#32))
    (addf (broadcastInDim S8x512 ![] bcast_S_S8x512 (constant S_ .f32 0x3F800000#32)) (Host.exp (Host.negf v)))

/-- The reference's sigmoid is the logistic function at every index. -/
theorem sigmoid_apply (v : FVec Ideal S8x512 .f32) (i : S8x512.Idx) : sigmoid v i = Ideal.logistic (v i) := by
  show FloatOps.hostDivf (F := Ideal) (φ := .f32) (Ideal.ofBits .f32 0x3F800000#32)
    (FloatOps.addf (F := Ideal) (φ := .f32) (Ideal.ofBits .f32 0x3F800000#32) _) = _
  rw [Ideal.ofBits_one_f32]
  rfl

/-- A gate's columns of `v`, at an index. -/
theorem slice_apply (q : ℕ) (hq : q + 512 ≤ 2048) (hs : S8x2048.Slices ![0, q] S8x512) (v : FVec Ideal S8x2048 .f32)
    (b : Fin 8) (j : Fin 512) : extractStridedSlice S8x512 ![0, q] v hs (ix2 b j) = v (ix2 b (col q hq j)) := by
  pointwise [col]

variable {A : Args} {s : Mat 8 512 × Mat 8 512} {V : Valuation τ sig (Elt Ideal)}

/-- The reference's pre-activation is the recurrence's. -/
theorem pre_eq (t : Fin 512) (H : Holds A t.val s V) (b : Fin 8) (k : Fin 2048) :
    (res_main_while0b_v15 V : FVec Ideal S8x2048 .f32) (ix2 b k) = pre A t s.1 b k := by
  unfold res_main_while0b_v15 pre
  rw [H.x, H.wi, H.bi, H.wh, H.bh, H.ctr, H.h]
  refine (sums_apply _ s.1 A.wi A.wh A.bi A.bh b k).trans ?_
  refine congrArg (· + _ + _ + _) (Finset.sum_congr rfl fun d _ => congrArg (· * _) (row_apply A.x _ t ?_ b d))
  intro a
  have ht := t.isLt
  fin_cases a
  · exact toInt_ofNat_of_lt (by omega)
  · rfl
  · rfl

/-- A gate of the reference at an index, as the recurrence's pre-activation. -/
theorem gate_eq (t : Fin 512) (H : Holds A t.val s V) (q : ℕ) (hq : q + 512 ≤ 2048)
    (hs : S8x2048.Slices ![0, q] S8x512) (b : Fin 8) (j : Fin 512) :
    extractStridedSlice S8x512 ![0, q] (res_main_while0b_v15 V : FVec Ideal S8x2048 .f32) hs (ix2 b j)
      = pre A t s.1 b (col q hq j) :=
  (slice_apply q hq hs _ b j).trans (pre_eq t H b _)

/-- A gate of the reference under the sigmoid, at an index. -/
theorem sigmoid_gate_eq (t : Fin 512) (H : Holds A t.val s V) (q : ℕ) (hq : q + 512 ≤ 2048)
    (hs : S8x2048.Slices ![0, q] S8x512) (b : Fin 8) (j : Fin 512) :
    sigmoid (extractStridedSlice S8x512 ![0, q] (res_main_while0b_v15 V : FVec Ideal S8x2048 .f32) hs) (ix2 b j)
      = Ideal.logistic (pre A t s.1 b (col q hq j)) :=
  (sigmoid_apply _ _).trans (congrArg Ideal.logistic (gate_eq t H q hq hs b j))

/-- The reference's next cell state is the recurrence's. -/
theorem cell_eq (t : Fin 512) (H : Holds A t.val s V) (b : Fin 8) (j : Fin 512) :
    (res_main_while0b_v41 V : FVec Ideal S8x512 .f32) (ix2 b j) = nextC A t s b j := by
  unfold nextC
  rw [← sigmoid_gate_eq t H 512 _ slices_S8x2048_S8x512_0_512, ← sigmoid_gate_eq t H 0 _ slices_S8x2048_S8x512_0_0,
    ← gate_eq t H 1024 _ slices_S8x2048_S8x512_0_1024, ← H.c]
  rfl

/-- The reference's next hidden state is the recurrence's. -/
theorem hidden_eq (t : Fin 512) (H : Holds A t.val s V) (b : Fin 8) (j : Fin 512) :
    (step_main_v3_6 V : FVec Ideal S8x512 .f32) (ix2 b j) = nextH A t s b j := by
  unfold nextH
  rw [← sigmoid_gate_eq t H 1536 _ slices_S8x2048_S8x512_0_1536, ← cell_eq t H]
  rfl

/-- One trip of the reference's loop is one step of the recurrence. -/
theorem trip_holds (t : Fin 512) (H : Holds A t.val s V) : Holds A (t.val + 1) (next A t s) (STEP V) where
  x := (STEP_main_v3_0 V).trans H.x
  wi := (STEP_main_v3_1 V).trans H.wi
  bi := (STEP_main_v3_2 V).trans H.bi
  wh := (STEP_main_v3_3 V).trans H.wh
  bh := (STEP_main_v3_4 V).trans H.bh
  ctr := by
    rw [STEP_main_v3_5, step_main_v3_5, H.ctr]
    funext i
    show BitVec.ofNat 32 t.val + 1#32 = _
    rw [BitVec.ofNat_add]
  h := by
    rw [STEP_main_v3_6]
    funext i
    idx_vars i
    exact hidden_eq t H _ _
  c := by
    rw [STEP_main_v3_7]
    funext i
    idx_vars i
    exact cell_eq t H _ _

/-- A broadcast of the constant zero is zero everywhere. -/
theorem zeros : broadcastInDim S8x512 ![] bcast_S_S8x512 (constant S_ .f32 0x00000000#32 : FVec Ideal S_ .f32)
    = fun _ => 0 := by
  funext i
  idx_vars i
  pointwise

/-- Before the first trip the loop's buffers hold the arguments, a zero counter and zero states. -/
theorem entry_holds (m : (ℓ : Loc nD τ sig) → Buf (Elt Ideal) ℓ) (c : Dev nD) :
    Holds (args m c) 0 (pair (args m c) 0) (entryContents preI m c) := by
  constructor
  case ctr => exact ctr_entry m c
  all_goals
    simp only [entryContents, afterL_cons, afterL_nil]
    after_reads_simp
  case h => exact zeros
  case c => exact zeros
  all_goals rfl

/-- After `n` trips the loop's buffers hold the recurrence's pair after `n` steps. -/
theorem trips_hold (m : (ℓ : Loc nD τ sig) → Buf (Elt Ideal) ℓ) (c : Dev nD) (n : ℕ) (hn : n ≤ 512) :
    Holds (args m c) n (pair (args m c) n) (STEP^[n] (entryContents preI m c)) := by
  induction n with
  | zero => exact entry_holds m c
  | succ n ih =>
    have e : (⟨n % 512, Nat.mod_lt _ (by decide)⟩ : Fin 512) = ⟨n, by omega⟩ := Fin.ext (Nat.mod_eq_of_lt (by omega))
    rw [Function.iterate_succ_apply']
    show Holds _ _ (next (args m c) _ (pair (args m c) n)) _
    rw [e]
    exact trip_holds ⟨n, by omega⟩ (ih (by omega))

/-- The reference's result is the recurrence's hidden state after all 512 steps. -/
theorem result_pair (m : (ℓ : Loc nD τ sig) → Buf (Elt Ideal) ℓ) (c : Dev nD) :
    (STEP^[512] (entryContents preI m c)) (Proc.devRef .tc main_v3_6) = (pair (args m c) 512).1 :=
  (trips_hold m c 512 le_rfl).h

end Cert.ReferenceIdeal.Value

end
-- ==== Proof.lean ====
/- The certificate's claims put together: the two frames and the reference's from the generated runs, and the value
   claim from the two programs' results, each shown elsewhere to be the same recurrence (KernelEq, ReferenceEq). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelEq
public import proofs.«01_k».proof.Proof.ReferenceEq
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end from any memory, its arguments unchanged and no counter left raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference give the recurrence the same arguments, on memories agreeing on them. -/
theorem args_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (Cert.ReferenceIdeal.Value.args m' c).x = (Cert.KernelIdeal.Value.args m c).x)
    (h1 : (Cert.ReferenceIdeal.Value.args m' c).wi = (Cert.KernelIdeal.Value.args m c).wi)
    (h2 : (Cert.ReferenceIdeal.Value.args m' c).wh = (Cert.KernelIdeal.Value.args m c).wh)
    (h3 : (Cert.ReferenceIdeal.Value.args m' c).bi = (Cert.KernelIdeal.Value.args m c).bi)
    (h4 : (Cert.ReferenceIdeal.Value.args m' c).bh = (Cert.KernelIdeal.Value.args m c).bh) :
    Cert.ReferenceIdeal.Value.args m' c = Cert.KernelIdeal.Value.args m c := by
  rw [Cert.Lstm.Args.mk.injEq]
  exact ⟨h0, h1, h2, h3, h4⟩

/-- Over the extended reals, from memories agreeing on the arguments, the kernel's result and the reference's are the
same array: the recurrence's hidden state after all 512 steps. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  exact ((h c).1.trans (Cert.ReferenceIdeal.Value.result_pair m' c)).trans
    ((congrArg (fun A => (Cert.Lstm.pair A 512).1) (args_eq m m' c h0 h1 h2 h3 h4)).trans
      (Cert.KernelIdeal.Value.result_pair m c).symm)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
